-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x100 : Shape := ⟨3, ![16, 2048, 100]⟩
abbrev S16 : Shape := ⟨1, ![16]⟩
abbrev S2048x100 : Shape := ⟨2, ![2048, 100]⟩
abbrev S1x2048x100 : Shape := ⟨3, ![1, 2048, 100]⟩
abbrev S1 : Shape := ⟨1, ![1]⟩
abbrev S1x1x1 : Shape := ⟨3, ![1, 1, 1]⟩

abbrev nBuf : Space → Nat
  | .hbm => 5
  | .vmem => 3
  | .smem => 0
  | _ => 0

abbrev bufTy : (tb : Table) → Fin (tcTables nBuf tb) → BufTy
  | .hbm, ⟨0, _⟩ => ⟨S16x2048x100, .f32⟩
  | .hbm, ⟨1, _⟩ => ⟨S16, .i32⟩
  | .hbm, ⟨2, _⟩ => ⟨S2048x100, .f32⟩
  | .hbm, ⟨3, _⟩ => ⟨S2048x100, .f32⟩
  | .hbm, ⟨4, _⟩ => ⟨S2048x100, .f32⟩
  | .local _ .vmem, ⟨0, _⟩ => ⟨S2048x100, .f32⟩
  | .local _ .vmem, ⟨1, _⟩ => ⟨S2048x100, .f32⟩
  | .local _ .vmem, ⟨2, _⟩ => ⟨S2048x100, .f32⟩
  | _, _ => ⟨S16x2048x100, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16x2048x100 : Shape := ⟨3, ![16, 2048, 100]⟩
abbrev S16 : Shape := ⟨1, ![16]⟩
abbrev S2048x100 : Shape := ⟨2, ![2048, 100]⟩
abbrev S_ : Shape := ⟨0, ![]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S16x2048x1 : Shape := ⟨3, ![16, 2048, 1]⟩
abbrev S1 : Shape := ⟨1, ![1]⟩
abbrev S1x1x1 : Shape := ⟨3, ![1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x2048x100, .f32⟩
  | .hbm, ⟨1, _⟩ => ⟨S16, .i32⟩
  | .hbm, ⟨2, _⟩ => ⟨S2048x100, .f32⟩
  | .hbm, ⟨3, _⟩ => ⟨S2048x100, .f32⟩
  | .hbm, ⟨4, _⟩ => ⟨S2048x100, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S2048x100, .f32⟩
  | .hbm, ⟨12, _⟩ => ⟨S2048x100, .f32⟩
  | .hbm, ⟨13, _⟩ => ⟨S2048x100, .f32⟩
  | .hbm, ⟨14, _⟩ => ⟨S2048x100, .f32⟩
  | .hbm, ⟨15, _⟩ => ⟨S2048x100, .f32⟩
  | .hbm, ⟨16, _⟩ => ⟨S2048x100, .f32⟩
  | .hbm, ⟨17, _⟩ => ⟨S2048, .i32⟩
  | .hbm, ⟨18, _⟩ => ⟨S1x2048, .i32⟩
  | .hbm, ⟨19, _⟩ => ⟨S16x1, .i32⟩
  | .hbm, ⟨20, _⟩ => ⟨S16x2048, .i32⟩
  | .hbm, ⟨21, _⟩ => ⟨S16x2048, .i32⟩
  | .hbm, ⟨22, _⟩ => ⟨S16x2048, .i1⟩
  | .hbm, ⟨23, _⟩ => ⟨S16x1, .i32⟩
  | .hbm, ⟨24, _⟩ => ⟨S16x2048, .i32⟩
  | .hbm, ⟨25, _⟩ => ⟨S16x2048, .i32⟩
  | .hbm, ⟨26, _⟩ => ⟨S16x2048, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S16x2048, .i32⟩
  | .hbm, ⟨31, _⟩ => ⟨S16x2048, .i32⟩
  | .hbm, ⟨32, _⟩ => ⟨S_, .i32⟩
  | .hbm, ⟨33, _⟩ => ⟨S16x2048, .i32⟩
  | .hbm, ⟨34, _⟩ => ⟨S16x2048, .i32⟩
  | .hbm, ⟨35, _⟩ => ⟨S_, .i32⟩
  | .hbm, ⟨36, _⟩ => ⟨S16x2048, .i32⟩
  | .hbm, ⟨37, _⟩ => ⟨S16x2048, .i1⟩
  | .hbm, ⟨38, _⟩ => ⟨S_, .i32⟩
  | .hbm, ⟨39, _⟩ => ⟨S16x2048, .i32⟩
  | .hbm, ⟨40, _⟩ => ⟨S16x2048, .i32⟩
  | .hbm, ⟨41, _⟩ => ⟨S16x2048, .i32⟩
  | .hbm, ⟨42, _⟩ => ⟨S16x2048x1, .i32⟩
  | .hbm, ⟨43, _⟩ => ⟨S1, .i32⟩
  | .hbm, ⟨44, _⟩ => ⟨S_, .i32⟩
  | .hbm, ⟨45, _⟩ => ⟨S16x2048x1, .i32⟩
  | .hbm, ⟨46, _⟩ => ⟨S16x2048x1, .i1⟩
  | .hbm, ⟨47, _⟩ => ⟨S1x1x1, .i32⟩
  | .hbm, ⟨48, _⟩ => ⟨S16x2048x1, .i32⟩
  | .hbm, ⟨49, _⟩ => ⟨S16x2048x1, .i1⟩
  | .hbm, ⟨50, _⟩ => ⟨S16x2048x1, .i1⟩
  | .hbm, ⟨51, _⟩ => ⟨S_, .i1⟩
  | .hbm, ⟨52, _⟩ => ⟨S16x2048, .i1⟩
  | .hbm, ⟨53, _⟩ => ⟨S16x2048x100, .f32⟩
  | .hbm, ⟨54, _⟩ => ⟨S16x2048x100, .i1⟩
  | .hbm, ⟨55, _⟩ => ⟨S_, .f32⟩
  | .hbm, ⟨56, _⟩ => ⟨S16x2048x100, .f32⟩
  | .hbm, ⟨57, _⟩ => ⟨S16x2048x100, .f32⟩
  | .hbm, ⟨58, _⟩ => ⟨S16x2048x1, .i1⟩
  | .hbm, ⟨59, _⟩ => ⟨S16x2048x100, .i1⟩
  | .hbm, ⟨60, _⟩ => ⟨S16x2048x100, .f32⟩
  | _, _ => ⟨S16x2048x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_c_1 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v18 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_v14 : Ref sig .tc := ⟨.hbm, 54, rfl⟩
abbrev main_call3_cst : Ref sig .tc := ⟨.hbm, 55, rfl⟩
abbrev main_call3_v15 : Ref sig .tc := ⟨.hbm, 56, rfl⟩
abbrev main_v19 : Ref sig .tc := ⟨.hbm, 57, rfl⟩
abbrev main_v20 : Ref sig .tc := ⟨.hbm, 58, rfl⟩
abbrev main_call4_v0 : Ref sig .tc := ⟨.hbm, 59, rfl⟩
abbrev main_v21 : Ref sig .tc := ⟨.hbm, 60, rfl⟩

abbrev nD : Nat := 1
abbrev τ : Topo := Topo.v7x

variable {F : FTy → Type} [FloatOps F]
-- ==== Proof.Clip.lean ====
/- The arithmetic of the clip over the extended reals: the kernel multiplies each entry by one common factor,
   the reference divides the entry times the threshold by the norm. Neither program is mentioned here. -/
module

public import Idealize.ShloMosaic.PureOps.Ideal

@[expose] public section

noncomputable section

namespace Cert.Clip

open Idealize.ShloMosaic

/-- The clip's threshold: the rational that the f32 literal 0.01 is. -/
def threshold : EReal := Ideal.ofBits .f32 0x3C23D70A#32

/-- The threshold is `10737418 · 2⁻³⁰`, the f32 value nearest to one hundredth. -/
theorem threshold_eq : threshold = ((10737418 / 2 ^ 30 : ℝ) : EReal) := by
  simp [threshold, Ideal.ofBits, Ideal.ieee]
  rw [← EReal.coe_mul]
  norm_num [zpow_neg]

/-- The threshold is not negative, so that a norm above it is not zero. -/
theorem threshold_nonneg : 0 ≤ threshold := by
  rw [threshold_eq]
  exact EReal.coe_nonneg.mpr (by positivity)

/-- Dividing by anything but zero is multiplying by its inverse, so a factor may be drawn out of a quotient:
    `(a · x) / n = x · (a / n)` on all extended reals, infinite ones included. -/
theorem div_mul_left (a x n : EReal) (hn : n ≠ 0) : Ideal.div (a * x) n = x * Ideal.div a n := by
  simp only [Ideal.div, if_neg hn]
  rw [mul_comm a x, mul_assoc]

/-- THE CLIP TWO WAYS, at one entry `x` and for any value `n` in the norm's place: scaling the clipped entry by
    `c / n`, or by one where nothing is to clip, is choosing between `(c · x) / n` and `x`. -/
theorem clip_eq (c n x : EReal) (hc : 0 ≤ c) :
    (if c < n then Ideal.div (c * x) n else x) = x * (if c < n then Ideal.div c n else 1) := by
  split_ifs with h
  · exact div_mul_left c x n (hc.trans_lt h).ne'
  · rw [mul_one]

end Cert.Clip

end
-- ==== Proof.Noise.lean ====
/- What the kernel's one block holds and what the reference's result holds, each read at an index. -/
module

public import proofs.«01_k».proof.Proof.Clip
public import proofs.«01_k».proof.Proof.Gen.KernelIdeal.Value
public import proofs.«01_k».proof.Proof.Gen.ReferenceIdeal.Run
public import Idealize.ShloMosaic.Lib.IdealHost
public import Idealize.ShloMosaic.Lib.Pointwise

@[expose] public section

noncomputable section

namespace Cert.Noise

open Idealize.ShloMosaic

/-- The Frobenius norm of the special latent: the root of the sum, over rows and channels, of the squares. -/
def norm (s : FVec Ideal KernelIdeal.S2048x100 .f32) : EReal :=
  Ideal.sqrt (∑ r : Fin 2048, ∑ k : Fin 100, s (ix2 r k) * s (ix2 r k))

/-- WHAT THE KERNEL'S BLOCK HOLDS at an index: the special latent's entry times the one factor that all entries share
    (the threshold over the norm where the norm is above the threshold, else one), plus the common latent's entry. -/
theorem kernel_apply (s u : FVec Ideal KernelIdeal.S2048x100 .f32) (i : KernelIdeal.S2048x100.Idx) :
    KernelIdeal.Value.G2 (F := Ideal) s u i
      = s i * (if Clip.threshold < norm s then Ideal.div Clip.threshold (norm s) else 1) + u i := by
  show KernelIdeal.Gen.k0_pay1 (F := Ideal) s u i = _
  unfold KernelIdeal.Gen.k0_pay1
  pointwise
  rfl

/-- The reference's result as its run states it: the composed host operations on the special latent `s` and the
    common latent `u`. -/
abbrev refTerm (s u : FVec Ideal ReferenceIdeal.S2048x100 .f32) : FVec Ideal ReferenceIdeal.S2048x100 .f32 :=
  let n : FVec Ideal ReferenceIdeal.S_ .f32 :=
    Host.sqrt (Host.reduceAdd (mulf s s) (constant ReferenceIdeal.S_ .f32 0x00000000#32)
      ReferenceIdeal.Gen.reducesTo_S2048x100_S_d0_1 ReferenceIdeal.Gen.h_S_)
  let c : FVec Ideal ReferenceIdeal.S_ .f32 := constant ReferenceIdeal.S_ .f32 0x3C23D70A#32
  addf (F := Ideal) (select (broadcastInDim ReferenceIdeal.S2048x100 ![] ReferenceIdeal.Gen.bcast_S_S2048x100 (cmpf .ogt n c))
    (Host.divf (mulf (broadcastInDim ReferenceIdeal.S2048x100 ![] ReferenceIdeal.Gen.bcast_S_S2048x100 c) s)
      (broadcastInDim ReferenceIdeal.S2048x100 ![] ReferenceIdeal.Gen.bcast_S_S2048x100 n)) s) u

/-- WHAT THE REFERENCE'S RESULT HOLDS at an index: the threshold times the special latent's entry, over the norm, where
    the norm is above the threshold, else the entry itself; plus the common latent's entry. -/
theorem reference_apply (s u : FVec Ideal ReferenceIdeal.S2048x100 .f32) (i : ReferenceIdeal.S2048x100.Idx) :
    refTerm s u i
      = (if Clip.threshold < norm s then Ideal.div (Clip.threshold * s i) (norm s) else s i) + u i := by
  unfold refTerm
  pointwise
  rfl

/-- THE EQUATION: on the same two latents the reference's result is the kernel's block, entry by entry. -/
theorem reference_eq_kernel (s u : FVec Ideal KernelIdeal.S2048x100 .f32) :
    refTerm s u = KernelIdeal.Value.G2 (F := Ideal) s u := by
  funext i
  rw [reference_apply, kernel_apply, Clip.clip_eq _ _ _ Clip.threshold_nonneg]

end Cert.Noise

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Noise
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates without fault, leaves its arguments as they were, and, having no semaphore, every counter
    at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference, run from memories that agree on the arguments, end with the same result over the extended
    reals: both runs' results are functions of the two latents, equal by `Noise.reference_eq_kernel`. -/
theorem algebraic_KernelIdeal_ReferenceIdeal : algebraic_KernelIdeal_ReferenceIdeal := by
  intro m ρ m' ρ' _ hagree
  refine ⟨_, Cert.KernelIdeal.Value.run (F := Ideal) m ρ,
    (θ_run Cert.ReferenceIdeal.defs _ _).mono (fun _ h c => ⟨(h c).1.trans ?_, (h c).2⟩)
      (Cert.ReferenceIdeal.Value.run (F := Ideal) m' ρ')⟩
  obtain ⟨_, _, hu, hs⟩ := hagree c
  rw [hu, hs]
  exact Noise.reference_eq_kernel _ _

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal,
  (trivial : preserves_Kernel_KernelIdeal), algebraic_KernelIdeal_ReferenceIdeal⟩

end Cert.Proof

end
